-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  bcast_S_S4096 : S_.BroadcastsInDim S4096 (![] : Fin 0 → Fin S4096.rank)

variable [Facts]

def fn {F : FTy → Type} [FloatOps F] (main_arg0 : FVec F S4096x1024 .f32) (main_arg1 : FVec F S4096x1024 .f32) (main_arg2 : IVec S4096 32) (main_arg3 : IVec S4096 32) : IVec S4096x1024 1 × IVec S4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 32 := constantI S_ 32 0#32
  let main_v3 : IVec S4096 32 := broadcastInDim S4096 ![] bcast_S_S4096 main_c
  let main_v4 : IVec S4096 1 := cmpi .sge main_arg2 main_v3
  let main_c_0 : IVec S_ 32 := constantI S_ 32 512#32
  let main_v5 : IVec S4096 32 := broadcastInDim S4096 ![] bcast_S_S4096 main_c_0
  let main_v6 : IVec S4096 1 := cmpi .slt main_arg2 main_v5
  let main_v7 : IVec S4096 1 := andi main_v4 main_v6
  (main_v2, main_v7)
-- ==== Kernel.lean ====
abbrev S4096x1024 : Shape := ⟨2, ![4096, 1024]⟩
abbrev S4096 : Shape := ⟨1, ![4096]⟩
abbrev S4096x1 : Shape := ⟨2, ![4096, 1]⟩
abbrev S2x4096 : Shape := ⟨2, ![2, 4096]⟩
abbrev S512x1024 : Shape := ⟨2, ![512, 1024]⟩
abbrev S512x1 : Shape := ⟨2, ![512, 1]⟩
abbrev S4096x512 : Shape := ⟨2, ![4096, 512]⟩
abbrev S1x4096 : Shape := ⟨2, ![1, 4096]⟩
abbrev S512 : Shape := ⟨1, ![512]⟩
abbrev S512x512 : Shape := ⟨2, ![512, 512]⟩
abbrev S512x4096 : Shape := ⟨2, ![512, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S4096, .i32⟩
  | .hbm, ⟨4, _⟩ => ⟨S4096x1, .i32⟩
  | .hbm, ⟨5, _⟩ => ⟨S4096x1, .i32⟩
  | .hbm, ⟨6, _⟩ => ⟨S2x4096, .f32⟩
  | .local _ .vmem, ⟨0, _⟩ => ⟨S4096x1024, .f32⟩
  | .local _ .vmem, ⟨1, _⟩ => ⟨S512x1024, .f32⟩
  | .local _ .vmem, ⟨2, _⟩ => ⟨S512x1024, .f32⟩
  | .local _ .vmem, ⟨3, _⟩ => ⟨S4096x1, .i32⟩
  | .local _ .vmem, ⟨4, _⟩ => ⟨S512x1, .i32⟩
  | .local _ .vmem, ⟨5, _⟩ => ⟨S512x1, .i32⟩
  | .local _ .vmem, ⟨6, _⟩ => ⟨S2x4096, .f32⟩
  | .local _ .vmem, ⟨7, _⟩ => ⟨S4096x1024, .bf16⟩
  | .local _ .vmem, ⟨8, _⟩ => ⟨S4096x512, .bf16⟩
  | .local _ .vmem, ⟨9, _⟩ => ⟨S1x4096, .f32⟩
  | .local _ .vmem, ⟨10, _⟩ => ⟨S1x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_14 : BitVec 32 := 0#32
  let v30 : BitVec 1 := Scalar.cmpi .eq arg0 c0_i32_14
  let v31 : BitVec 32 := Scalar.extui v30
  let c0_i32_15 : BitVec 32 := 0#32
  let v32 : BitVec 1 := Scalar.cmpi .ne v31 c0_i32_15
  v32

def k0_cond3 (i : grid0.Coords) : BitVec 1 :=
  let arg0 : BitVec 32 := BitVec.ofNat 32 (i 0).val
  let c0_i32_16 : BitVec 32 := 0#32
  let v33 : BitVec 1 := Scalar.cmpi .ne arg0 c0_i32_16
  let v34 : BitVec 32 := Scalar.extui v33
  let c0_i32_17 : BitVec 32 := 0#32
  let v35 : BitVec 1 := Scalar.cmpi .ne v34 c0_i32_17
  v35

def k0_cond4 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩
abbrev S2x4096 : Shape := ⟨2, ![2, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S4096, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S4096x1, .i32⟩
  | .hbm, ⟨27, _⟩ => ⟨S4096x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1, .f32⟩
  | .hbm, ⟨42, _⟩ => ⟨S4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x1, .f32⟩
  | .hbm, ⟨51, _⟩ => ⟨S4096, .f32⟩
  | .hbm, ⟨52, _⟩ => ⟨S1x4096, .f32⟩
  | .hbm, ⟨53, _⟩ => ⟨S1x4096, .f32⟩
  | .hbm, ⟨54, _⟩ => ⟨S2x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.Step.lean ====
/- What one grid point of the kernel leaves in the two result rows and in the four kept buffers, as the payloads of its
   stores over whole blocks. -/
module

public import proofs.«01_k».proof.Proof.Gen.KernelIdeal.Value
public import Idealize.ShloMosaic.Lib.Pipeline.Value
public import Idealize.ShloMosaic.Lib.Pointwise.Index

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen

variable {F : FTy → Type} [FloatOps F]

theorem hz : (![0, 0] : Fin 2 → Nat) = fun _ => 0 := by funext a; fin_cases a <;> rfl

/-- The array of two rows whose row 0 is `p` and whose row 1 is `n`. -/
def rows (p n : Vec F S1x4096 .f32) : Vec F S2x4096 .f32 := fun y =>
  if (y 0).val = 0 then p (ix2 (0 : Fin 1) (y 1)) else n (ix2 (0 : Fin 1) (y 1))

/-- Row `k` of an array of two rows. -/
def row (k : Fin 2) (x : Vec F S2x4096 .f32) : Vec F S1x4096 .f32 := fun y => x (ix2 k (y 1))

theorem row_zero_rows (p n : Vec F S1x4096 .f32) : row 0 (rows p n) = p := by
  funext y
  show p _ = _
  congr 1
  funext a
  fin_cases a
  · exact Subsingleton.elim (α := Fin 1) _ _
  · rfl

theorem row_one_rows (p n : Vec F S1x4096 .f32) : row 1 (rows p n) = n := by
  funext y
  show n _ = _
  congr 1
  funext a
  fin_cases a
  · exact Subsingleton.elim (α := Fin 1) _ _
  · rfl

/-- A load of the rectangle that is row 0 reads row 0. -/
theorem ld_row_zero (x : Vec F S2x4096 .f32) (inb : ∀ a, (![0, 0] : Fin 2 → Nat) a + (![1, 4096] : Fin 2 → Nat) a ≤ S2x4096.size a) :
    View.ld x (Rect.unit (s := S2x4096) ![0, 0] ![1, 4096] inb) = row 0 x := by
  funext y
  show x _ = x _
  congr 1
  funext a
  have h0 : (y 0).val = 0 := by have : (y 0).val < 1 := (y 0).isLt; omega
  apply Fin.ext
  fin_cases a
  · show 0 + 1 * (y 0).val = 0; omega
  · show 0 + 1 * (y 1).val = (y 1).val; omega

/-- A load of the rectangle that is row 1 reads row 1. -/
theorem ld_row_one (x : Vec F S2x4096 .f32) (inb : ∀ a, (![1, 0] : Fin 2 → Nat) a + (![1, 4096] : Fin 2 → Nat) a ≤ S2x4096.size a) :
    View.ld x (Rect.unit (s := S2x4096) ![1, 0] ![1, 4096] inb) = row 1 x := by
  funext y
  show x _ = x _
  congr 1
  funext a
  have h0 : (y 0).val = 0 := by have : (y 0).val < 1 := (y 0).isLt; omega
  apply Fin.ext
  fin_cases a
  · show 1 + 1 * (y 0).val = 1; omega
  · show 0 + 1 * (y 1).val = (y 1).val; omega

/-- A store of row 0 followed by a store of row 1 leaves the two rows stored, whatever was there before. -/
theorem canon_rows (p n : Vec F S1x4096 .f32) (L : List (View.Piece (Elt F) S2x4096 .f32))
    (inb0 : ∀ a, (![0, 0] : Fin 2 → Nat) a + (![1, 4096] : Fin 2 → Nat) a ≤ S2x4096.size a)
    (inb1 : ∀ a, (![1, 0] : Fin 2 → Nat) a + (![1, 4096] : Fin 2 → Nat) a ≤ S2x4096.size a) :
    View.canon ((⟨Rect.unit (s := S2x4096) ![1, 0] ![1, 4096] inb1, n⟩ : View.Piece (Elt F) S2x4096 .f32)
      :: ⟨Rect.unit (s := S2x4096) ![0, 0] ![1, 4096] inb0, p⟩ :: L) = rows p n := by
  funext y
  have hy : (y 0).val < 2 := (y 0).isLt
  by_cases h : (y 0).val = 0
  · rw [View.canon_cons_of_not_mem _ _ (by
      intro hm
      have := ((Rect.mem_set_unit (inb := inb1)).mp hm 0).1
      change 1 ≤ (y 0).val at this
      omega)]
    have e : y = (Rect.unit (s := S2x4096) ![0, 0] ![1, 4096] inb0).emb (ix2 (0 : Fin 1) (y 1)) := by
      funext a
      apply Fin.ext
      fin_cases a
      · show (y 0).val = 0 + 1 * 0; omega
      · show (y 1).val = 0 + 1 * (y 1).val; omega
    conv_lhs => rw [e]
    rw [View.canon_cons_emb]
    show _ = if (y 0).val = 0 then _ else _
    rw [if_pos h]
  · have e : y = (Rect.unit (s := S2x4096) ![1, 0] ![1, 4096] inb1).emb (ix2 (0 : Fin 1) (y 1)) := by
      funext a
      apply Fin.ext
      fin_cases a
      · show (y 0).val = 1 + 1 * 0; omega
      · show (y 1).val = 0 + 1 * (y 1).val; omega
    conv_lhs => rw [e]
    rw [View.canon_cons_emb]
    show _ = if (y 0).val = 0 then _ else _
    rw [if_neg h]

section cases
variable (c : Dev nD) (i : grid0.Coords) (a1 : Memref sig .tc .vmem S4096x1024 .f32) (h1 : a1.IsWhole)
  (a2 : Memref sig .tc .vmem S512x1024 .f32) (h2 : a2.IsWhole) (a3 : Memref sig .tc .vmem S4096x1 .i32) (h3 : a3.IsWhole)
  (a4 : Memref sig .tc .vmem S512x1 .i32) (h4 : a4.IsWhole) (a5 : Memref sig .tc .vmem S2x4096 .f32) (h5 : a5.IsWhole)
  (a6 : Memref sig .tc .vmem S4096x1024 .bf16) (h6 : a6.IsWhole) (a7 : Memref sig .tc .vmem S4096x512 .bf16) (h7 : a7.IsWhole)
  (a8 : Memref sig .tc .vmem S1x4096 .f32) (h8 : a8.IsWhole) (a9 : Memref sig .tc .vmem S1x4096 .f32) (h9 : a9.IsWhole)
  (x0 : Vec F S4096x1024 .f32) (x1 : Vec F S512x1024 .f32) (x2 : Vec F S4096x1 .i32) (x3 : Vec F S512x1 .i32)
  (xo : Vec F S2x4096 .f32) (xs0 : Vec F S4096x1024 .bf16) (xs1 : Vec F S4096x512 .bf16) (xs2 : Vec F S1x4096 .f32)
  (xs3 : Vec F S1x4096 .f32)

/-- The first point keeps the first embeddings. -/
theorem kept0_A (hc0 : cond0_0 i) (hc1 : cond0_1 i) (hc2 : ¬cond0_2 i) (hc3 : ¬cond0_3 i) :
    sout0_A_0 c i a1 h1 a2 h2 a3 h3 a4 h4 a5 h5 a6 h6 a7 h7 a8 h8 a9 h9 hc0 hc1 hc2 hc3 x0 x1 x2 x3 = k0_pay10 x0 := by
  unfold sout0_A_0
  rw [View.read_writes_eq_canon _ _ _ (scover0_A_0 c i a1 h1 a2 h2 a3 h3 a4 h4 a5 h5 a6 h6 a7 h7 a8 h8 a9 h9 hc0 hc1 hc2 hc3 x0 x1 x2 x3)]
  unfold kernelRun0_A
  dsimp only
  sl_unfold_words
  simp only [View.canon_unit_zero (S := S4096x1024) hz, View.readAt_eq_ld, h1.read_unread, View.ld_unit_zero (S := S4096x1024) hz]

/-- The first point keeps the penalty at each row's label. -/
theorem kept1_A (hc0 : cond0_0 i) (hc1 : cond0_1 i) (hc2 : ¬cond0_2 i) (hc3 : ¬cond0_3 i) :
    sout0_A_1 c i a1 h1 a2 h2 a3 h3 a4 h4 a5 h5 a6 h6 a7 h7 a8 h8 a9 h9 hc0 hc1 hc2 hc3 x0 x1 x2 x3 = k0_pay11 x0 x2 := by
  unfold sout0_A_1
  rw [View.read_writes_eq_canon _ _ _ (scover0_A_1 c i a1 h1 a2 h2 a3 h3 a4 h4 a5 h5 a6 h6 a7 h7 a8 h8 a9 h9 hc0 hc1 hc2 hc3 x0 x1 x2 x3)]
  unfold kernelRun0_A
  dsimp only
  sl_unfold_words
  simp only [View.canon_unit_zero (S := S4096x512) hz, View.readAt_eq_ld, h1.read_unread, h3.read_unread,
    View.ld_unit_zero (S := S4096x1024) hz, View.ld_unit_zero (S := S4096x1) hz]

/-- The first point keeps the rows' lengths. -/
theorem kept2_A (hc0 : cond0_0 i) (hc1 : cond0_1 i) (hc2 : ¬cond0_2 i) (hc3 : ¬cond0_3 i) :
    sout0_A_2 c i a1 h1 a2 h2 a3 h3 a4 h4 a5 h5 a6 h6 a7 h7 a8 h8 a9 h9 hc0 hc1 hc2 hc3 x0 x1 x2 x3 = k0_pay12 x0 := by
  unfold sout0_A_2
  rw [View.read_writes_eq_canon _ _ _ (scover0_A_2 c i a1 h1 a2 h2 a3 h3 a4 h4 a5 h5 a6 h6 a7 h7 a8 h8 a9 h9 hc0 hc1 hc2 hc3 x0 x1 x2 x3)]
  unfold kernelRun0_A
  dsimp only
  sl_unfold_words
  simp only [View.canon_unit_zero (S := S1x4096) hz, View.readAt_eq_ld, h1.read_unread, View.ld_unit_zero (S := S4096x1024) hz]

/-- The first point keeps the rows' penalties. -/
theorem kept3_A (hc0 : cond0_0 i) (hc1 : cond0_1 i) (hc2 : ¬cond0_2 i) (hc3 : ¬cond0_3 i) :
    sout0_A_3 c i a1 h1 a2 h2 a3 h3 a4 h4 a5 h5 a6 h6 a7 h7 a8 h8 a9 h9 hc0 hc1 hc2 hc3 x0 x1 x2 x3 = k0_pay13 x0 := by
  unfold sout0_A_3
  rw [View.read_writes_eq_canon _ _ _ (scover0_A_3 c i a1 h1 a2 h2 a3 h3 a4 h4 a5 h5 a6 h6 a7 h7 a8 h8 a9 h9 hc0 hc1 hc2 hc3 x0 x1 x2 x3)]
  unfold kernelRun0_A
  dsimp only
  sl_unfold_words
  simp only [View.canon_unit_zero (S := S1x4096) hz, View.readAt_eq_ld, h1.read_unread, View.ld_unit_zero (S := S4096x1024) hz]

/-- The first point's rows: its block's least and greatest values. -/
theorem out_A (hc0 : cond0_0 i) (hc1 : cond0_1 i) (hc2 : ¬cond0_2 i) (hc3 : ¬cond0_3 i) :
    out0_A_4 c i a1 h1 a2 h2 a3 h3 a4 h4 a5 h5 a6 h6 a7 h7 a8 h8 a9 h9 hc0 hc1 hc2 hc3 x0 x1 x2 x3
      = rows (k0_pay17 x1 x3 (k0_pay10 x0) (k0_pay11 x0 x2)) (k0_pay18 x1 x3 (k0_pay10 x0) (k0_pay11 x0 x2)) := by
  unfold out0_A_4
  rw [View.read_writes_eq_canon _ _ _ (cover0_A_4 c i a1 h1 a2 h2 a3 h3 a4 h4 a5 h5 a6 h6 a7 h7 a8 h8 a9 h9 hc0 hc1 hc2 hc3 x0 x1 x2 x3)]
  unfold kernelRun0_A
  dsimp only
  sl_unfold_words
  refine (canon_rows _ _ _ _ _).trans ?_
  simp only [View.readCov_unit_zero (S := S4096x1024) _ hz, View.readCov_unit_zero (S := S4096x512) _ hz,
    View.readAt_eq_ld, h1.read_unread, h2.read_unread, h3.read_unread, h4.read_unread,
    View.ld_unit_zero (S := S4096x1024) hz, View.ld_unit_zero (S := S512x1024) hz, View.ld_unit_zero (S := S4096x1) hz,
    View.ld_unit_zero (S := S512x1) hz]

/-- A middle point's rows: the rows before it with its block's values folded in. -/
theorem out_B (hc0 : ¬cond0_0 i) (hc1 : ¬cond0_1 i) (hc2 : cond0_2 i) (hc3 : ¬cond0_3 i) :
    out0_B_4 c i a1 h1 a2 h2 a3 h3 a4 h4 a5 h5 a6 h6 a7 h7 a8 h8 a9 h9 hc0 hc1 hc2 hc3 x0 x1 x2 x3 xo xs0 xs1 xs2 xs3
      = rows (k0_pay1 (k0_pay15 x1 x3 xs0 xs1) (row 0 xo)) (k0_pay2 (k0_pay16 x1 x3 xs0 xs1) (row 1 xo)) := by
  unfold out0_B_4
  rw [View.read_writes_eq_canon _ _ _ (cover0_B_4 c i a1 h1 a2 h2 a3 h3 a4 h4 a5 h5 a6 h6 a7 h7 a8 h8 a9 h9 hc0 hc1 hc2 hc3 x0 x1 x2 x3 xo xs0 xs1 xs2 xs3)]
  unfold kernelRun0_B
  dsimp only
  sl_unfold_words
  refine (canon_rows _ _ _ _ _).trans ?_
  simp only [View.readAt_eq_ld, h2.read_unread, h4.read_unread, h5.read_unread, h6.read_unread, h7.read_unread,
    View.ld_unit_zero (S := S4096x1024) hz, View.ld_unit_zero (S := S512x1024) hz, View.ld_unit_zero (S := S4096x512) hz,
    View.ld_unit_zero (S := S512x1) hz, ld_row_zero, ld_row_one]

/-- The last point's rows: as a middle point's, then turned into distances. -/
theorem out_C (hc0 : ¬cond0_0 i) (hc1 : ¬cond0_1 i) (hc2 : cond0_2 i) (hc3 : cond0_3 i) :
    out0_C_4 c i a1 h1 a2 h2 a3 h3 a4 h4 a5 h5 a6 h6 a7 h7 a8 h8 a9 h9 hc0 hc1 hc2 hc3 x0 x1 x2 x3 xo xs0 xs1 xs2 xs3
      = rows (k0_pay6 xs2 xs3 (k0_pay1 (k0_pay15 x1 x3 xs0 xs1) (row 0 xo)))
          (k0_pay7 xs2 xs3 (k0_pay2 (k0_pay16 x1 x3 xs0 xs1) (row 1 xo))) := by
  unfold out0_C_4
  rw [View.read_writes_eq_canon _ _ _ (cover0_C_4 c i a1 h1 a2 h2 a3 h3 a4 h4 a5 h5 a6 h6 a7 h7 a8 h8 a9 h9 hc0 hc1 hc2 hc3 x0 x1 x2 x3 xo xs0 xs1 xs2 xs3)]
  unfold kernelRun0_C
  dsimp only
  sl_unfold_words
  refine (canon_rows _ _ _ _ _).trans ?_
  have hc : ∀ (L : List (View.Piece (Elt F) S2x4096 .f32)) (R : Rect S2x4096),
      a5.view.readCov L R.toLoadRect = View.ld (View.canon L) R := fun L R => View.readCov_eq_canon' a5.view L R.toLoadRect
  simp only [hc, canon_rows, ld_row_zero, ld_row_one, row_zero_rows, row_one_rows,
    View.readAt_eq_ld, h2.read_unread, h4.read_unread, h5.read_unread, h6.read_unread, h7.read_unread, h8.read_unread, h9.read_unread,
    View.ld_unit_zero (S := S4096x1024) hz, View.ld_unit_zero (S := S512x1024) hz, View.ld_unit_zero (S := S4096x512) hz,
    View.ld_unit_zero (S := S512x1) hz, View.ld_unit_zero (S := S1x4096) hz]

end cases

end Cert.KernelIdeal.Mine

end
-- ==== Proof.Blocks.lean ====
/- The blocks that the kernel reads at a grid point, as elements of the argument arrays. -/
module

public import proofs.«01_k».proof.Proof.Step
public import Idealize.ShloMosaic.Lib.Claim
public import Idealize.ShloMosaic.Lib.Pipeline.ValueKit

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ) (c : Dev nD)

/-- The first embeddings. -/
abbrev emb1 : Vec F S4096x1024 .f32 := m ((c : Thread nD τ).loc main_arg0)
/-- The second embeddings. -/
abbrev emb2 : Vec F S4096x1024 .f32 := m ((c : Thread nD τ).loc main_arg1)
/-- The first labels. -/
abbrev lab1 : Vec F S4096 .i32 := m ((c : Thread nD τ).loc main_arg2)
/-- The second labels. -/
abbrev lab2 : Vec F S4096 .i32 := m ((c : Thread nD τ).loc main_arg3)

/-- The row of the second arrays that is row `r` of block `t`. -/
abbrev at_ (t : Fin cfg0.N) (r : Fin 512) : Fin 4096 :=
  ⟨512 * t.val + r.val, by have h : t.val < 8 := lt_of_lt_of_eq t.isLt N_0; omega⟩

theorem index0 : ∀ t : Fin cfg0.N, win0_0.index t = ![0, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel

/-- The block of the first embeddings is all of them. -/
theorem iblk0_eq (t : Fin cfg0.N) : (iblk m c 0 t : Vec F S4096x1024 .f32) = emb1 m c := by
  funext y
  blk_ext [iblk, V_main_arg0, index0 t]

/-- The block of the second embeddings: 512 rows from row 512·t. -/
theorem iblk1_eq (t : Fin cfg0.N) :
    (iblk m c 1 t : Vec F S512x1024 .f32) = fun y => emb2 m c (ix2 (at_ t (y 0)) (y 1)) := by
  funext y
  blk_ext [iblk, V_main_arg1, index1 t]

/-- The first labels as the kernel is given them: a column. -/
theorem column1 : (V m c main_call0_v0 : Vec F S4096x1 .i32) = fun y => lab1 m c (ix1 (y 0)) := by
  funext y
  entry_read
  pointwise

/-- The second labels as the kernel is given them: a column. -/
theorem column2 : (V m c main_call0_v1 : Vec F S4096x1 .i32) = fun y => lab2 m c (ix1 (y 0)) := by
  funext y
  entry_read
  pointwise

/-- The block of the first labels is all of them, as a column. -/
theorem iblk2_eq (t : Fin cfg0.N) :
    (iblk m c 2 t : Vec F S4096x1 .i32) = fun y => lab1 m c (ix1 (y 0)) := by
  funext y
  show V m c main_call0_v0 (((cfg0.win 2).blk t).view.emb y) = _
  rw [column1]
  refine congrArg (fun i => lab1 m c (ix1 i)) (Fin.ext ?_)
  blk_simp [index2 t]

/-- The block of the second labels: 512 of them from 512·t, as a column. -/
theorem iblk3_eq (t : Fin cfg0.N) :
    (iblk m c 3 t : Vec F S512x1 .i32) = fun y => lab2 m c (ix1 (at_ t (y 0))) := by
  funext y
  show V m c main_call0_v1 (((cfg0.win 3).blk t).view.emb y) = _
  rw [column2]
  refine congrArg (fun i => lab2 m c (ix1 i)) (Fin.ext ?_)
  blk_simp [index3 t]
  show _ = 512 * t.val + (y 0).val
  omega

end Cert.KernelIdeal.Mine

end
-- ==== Proof.Payloads.lean ====
/- What the kernel computes in one block, element by element, over the extended reals. -/
module

public import proofs.«01_k».proof.Proof.Blocks
public import Idealize.ShloMosaic.Lib.Pointwise.Tactic
public import Idealize.ShloMosaic.PureOps.Ideal.Laws

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen

/-- The norm of a row, with 1e-12 added. -/
def size (x : Fin 1024 → EReal) : EReal := Ideal.sqrt (∑ k, x k * x k) + Ideal.ofBits .f32 730643660#32

/-- How far the score of a pair with equal labels is moved down: 256 times the first row's norm. -/
def shift (x : Fin 1024 → EReal) : EReal := Ideal.ofBits .f32 1132462080#32 * size x

/-- The score of a pair: the product of the normalised second row with the first row, and the product of the second
label's indicator row with the first label's row, which holds the negated shift at the label. -/
def score (x1 x2 : Fin 1024 → EReal) (l1 l2 : BitVec 32) : EReal :=
  ∑ k, x2 k * Ideal.div 1 (size x2) * x1 k +
    ∑ q : Fin 512, Scalar.select (IntOp.cmpi .eq (BitVec.ofNat 32 q.val) l1)
      (FloatOps.sitofp (F := Ideal) .f32 (BitVec.setWidth 32 (IntOp.cmpi .eq (BitVec.ofNat 32 q.val) l2)) * (0 - shift x1)) 0

/-- The least score turned into the first result. -/
def fixMin (n o p : EReal) : EReal :=
  if p < Ideal.ofBits .f32 3204448256#32 * o then (p + o) * Ideal.div 1 n
  else p * Ideal.div 1 n + Ideal.ofBits .f32 1259902591#32

/-- The greatest score turned into the second result. -/
def fixMax (n o p : EReal) : EReal :=
  if p < Ideal.ofBits .f32 3204448256#32 * o then (p + o) * Ideal.div 1 n - Ideal.ofBits .f32 1259902591#32
  else p * Ideal.div 1 n

variable (x1 : Vec Ideal S4096x1024 .f32) (l1 : Vec Ideal S4096x1 .i32)
variable (x2 : Vec Ideal S512x1024 .f32) (l2 : Vec Ideal S512x1 .i32)

/-- The kept column of shifts. -/
theorem pay9_apply (i : Fin 4096) : k0_pay9 x1 (ix2 i 0) = shift (fun k => x1 (ix2 i k)) := by
  unfold k0_pay9 k0_pay8
  pointwise
  rfl

/-- The kept row of norms. -/
theorem pay12_apply (i : Fin 4096) : k0_pay12 x1 (ix2 0 i) = size (fun k => x1 (ix2 i k)) := by
  unfold k0_pay12 k0_pay8
  pointwise
  rfl

/-- The kept row of shifts. -/
theorem pay13_apply (i : Fin 4096) : k0_pay13 x1 (ix2 0 i) = shift (fun k => x1 (ix2 i k)) := by
  unfold k0_pay13
  pointwise
  exact pay9_apply x1 i

/-- The scores of a block. -/
theorem pay14_apply (r : Fin 512) (i : Fin 4096) :
    k0_pay14 x2 l2 (k0_pay10 x1) (k0_pay11 x1 l1) (ix2 r i) =
      score (fun k => x1 (ix2 i k)) (fun k => x2 (ix2 r k)) (l1 (ix2 i 0)) (l2 (ix2 r 0)) := by
  unfold k0_pay14 k0_pay10 k0_pay11
  pointwise
  simp only [pay9_apply]
  rfl

/-- The word of plus infinity. -/
theorem top_word : Ideal.ofBits .f32 2139095040#32 = ⊤ := by
  simp [Ideal.ofBits, Ideal.ieee]

/-- The word of minus infinity. -/
theorem bot_word : Ideal.ofBits .f32 4286578688#32 = ⊥ := by
  simp [Ideal.ofBits, Ideal.ieee]

/-- A number is at most a block's least scores when it is at most each score. -/
theorem le_pay15 (e : Vec Ideal S4096x1024 .bf16) (o : Vec Ideal S4096x512 .bf16) (i : Fin 4096) (z : EReal) :
    z ≤ k0_pay15 x2 l2 e o (ix1 i) ↔ ∀ r, z ≤ k0_pay14 x2 l2 e o (ix2 r i) := by
  unfold k0_pay15
  pointwise
  rw [Finset.le_fold_min, top_word]
  simp

/-- A number is at least a block's greatest scores when it is at least each score. -/
theorem pay16_le (e : Vec Ideal S4096x1024 .bf16) (o : Vec Ideal S4096x512 .bf16) (i : Fin 4096) (z : EReal) :
    k0_pay16 x2 l2 e o (ix1 i) ≤ z ↔ ∀ r, k0_pay14 x2 l2 e o (ix2 r i) ≤ z := by
  unfold k0_pay16
  pointwise
  rw [Finset.fold_max_le, bot_word]
  simp

/-- The first block's least scores, as a row. -/
theorem pay17_apply (e : Vec Ideal S4096x1024 .bf16) (o : Vec Ideal S4096x512 .bf16) (i : Fin 4096) :
    k0_pay17 x2 l2 e o (ix2 0 i) = k0_pay15 x2 l2 e o (ix1 i) := by
  unfold k0_pay17
  pointwise

/-- The first block's greatest scores, as a row. -/
theorem pay18_apply (e : Vec Ideal S4096x1024 .bf16) (o : Vec Ideal S4096x512 .bf16) (i : Fin 4096) :
    k0_pay18 x2 l2 e o (ix2 0 i) = k0_pay16 x2 l2 e o (ix1 i) := by
  unfold k0_pay18
  pointwise

variable (v : Vec Ideal S4096 .f32) (n o p : Vec Ideal S1x4096 .f32)

/-- The running least score. -/
theorem pay1_apply (i : Fin 4096) : k0_pay1 v p (ix2 0 i) = min (p (ix2 0 i)) (v (ix1 i)) := by
  unfold k0_pay1
  pointwise

/-- The running greatest score. -/
theorem pay2_apply (i : Fin 4096) : k0_pay2 v p (ix2 0 i) = max (p (ix2 0 i)) (v (ix1 i)) := by
  unfold k0_pay2
  pointwise

/-- The last point's work on the least scores. -/
theorem pay6_apply (i : Fin 4096) : k0_pay6 n o p (ix2 0 i) = fixMin (n (ix2 0 i)) (o (ix2 0 i)) (p (ix2 0 i)) := by
  unfold k0_pay6 k0_pay5 k0_pay4 k0_pay3
  pointwise
  rfl

/-- The last point's work on the greatest scores. -/
theorem pay7_apply (i : Fin 4096) : k0_pay7 n o p (ix2 0 i) = fixMax (n (ix2 0 i)) (o (ix2 0 i)) (p (ix2 0 i)) := by
  unfold k0_pay7 k0_pay5 k0_pay4 k0_pay3
  pointwise
  rfl

end Cert.KernelIdeal.Mine

end
-- ==== Proof.Fold.lean ====
/- The kernel's result over the whole grid: the least and the greatest score of each row, and the last point's work on
   them. -/
module

public import proofs.«01_k».proof.Proof.Payloads

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen

section Points

variable {F : FTy → Type} [FloatOps F]
variable (m : (ℓ : Loc nD τ sig) → Buf (Elt F) ℓ) (c : Dev nD)

/-- The first labels as a column. -/
abbrev col1 : Vec F S4096x1 .i32 := fun y => lab1 m c (ix1 (y 0))
/-- Block `t` of the second labels as a column. -/
abbrev col2 (t : Fin cfg0.N) : Vec F S512x1 .i32 := fun y => lab2 m c (ix1 (at_ t (y 0)))
/-- Block `t` of the second embeddings. -/
abbrev blk2 (t : Fin cfg0.N) : Vec F S512x1024 .f32 := fun y => emb2 m c (ix2 (at_ t (y 0)) (y 1))

/-- What the four kept buffers hold after any point: what the first point computes from the first arrays. -/
theorem kept_eq : ∀ (n : Nat) (hn : n < cfg0.N), (outsAt0 m c n hn).2 =
    (k0_pay10 (emb1 m c), k0_pay11 (emb1 m c) (col1 m c), k0_pay12 (emb1 m c), k0_pay13 (emb1 m c))
  | 0, hn => by
    rw [outsAt0_A m c ⟨0, hn⟩ (Nat.zero_mod 8) (Nat.zero_mod 8) (Nat.not_succ_le_zero 0) (by decide : ¬ 0 % 8 = 7)]
    dsimp only
    rw [kept0_A, kept1_A, kept2_A, kept3_A, iblk0_eq, iblk2_eq]
    rfl
  | n + 1, hn => by
    have h8 : n + 1 < 8 := lt_of_lt_of_eq hn N_0
    have ih := kept_eq n (Nat.lt_of_succ_lt hn)
    have hz : ¬(n + 1) % 8 = 0 := by omega
    rw [← ih]
    by_cases h7 : (n + 1) % 8 = 7
    · rw [outsAt0_C m c ⟨n + 1, hn⟩ hz hz (Nat.le_add_left 1 n) h7]
      rfl
    · rw [outsAt0_B m c ⟨n + 1, hn⟩ hz hz (Nat.le_add_left 1 n) h7]
      rfl

/-- The rows after the first point. -/
theorem first_point (t : Fin cfg0.N) (ht : t.val = 0) : (outsAt0 m c t.val t.isLt).1 =
    rows (k0_pay17 (blk2 m c t) (col2 m c t) (k0_pay10 (emb1 m c)) (k0_pay11 (emb1 m c) (col1 m c)))
      (k0_pay18 (blk2 m c t) (col2 m c t) (k0_pay10 (emb1 m c)) (k0_pay11 (emb1 m c) (col1 m c))) := by
  have hz : t.val % 8 = 0 := by omega
  rw [outsAt0_A m c t hz hz (by omega) (by omega)]
  dsimp only
  rw [out_A, iblk0_eq, iblk1_eq, iblk2_eq, iblk3_eq]
  rfl

/-- The rows after a middle point, from the rows before it. -/
theorem middle_point (t : Fin cfg0.N) (h0 : 1 ≤ t.val) (h7 : t.val < 7) (hp : t.val - 1 < cfg0.N) :
    (outsAt0 m c t.val t.isLt).1 =
    rows (k0_pay1 (k0_pay15 (blk2 m c t) (col2 m c t) (k0_pay10 (emb1 m c)) (k0_pay11 (emb1 m c) (col1 m c)))
        (row 0 (outsAt0 m c (t.val - 1) hp).1))
      (k0_pay2 (k0_pay16 (blk2 m c t) (col2 m c t) (k0_pay10 (emb1 m c)) (k0_pay11 (emb1 m c) (col1 m c)))
        (row 1 (outsAt0 m c (t.val - 1) hp).1)) := by
  rw [outsAt0_B m c t (by omega) (by omega) h0 (by omega)]
  dsimp only
  rw [out_B, iblk1_eq, iblk3_eq, kept_eq m c (t.val - 1) hp]
  rfl

/-- The rows after the last point, from the rows before it. -/
theorem last_point (t : Fin cfg0.N) (h7 : t.val = 7) (hp : t.val - 1 < cfg0.N) :
    (outsAt0 m c t.val t.isLt).1 =
    rows (k0_pay6 (k0_pay12 (emb1 m c)) (k0_pay13 (emb1 m c))
        (k0_pay1 (k0_pay15 (blk2 m c t) (col2 m c t) (k0_pay10 (emb1 m c)) (k0_pay11 (emb1 m c) (col1 m c)))
          (row 0 (outsAt0 m c (t.val - 1) hp).1)))
      (k0_pay7 (k0_pay12 (emb1 m c)) (k0_pay13 (emb1 m c))
        (k0_pay2 (k0_pay16 (blk2 m c t) (col2 m c t) (k0_pay10 (emb1 m c)) (k0_pay11 (emb1 m c) (col1 m c)))
          (row 1 (outsAt0 m c (t.val - 1) hp).1))) := by
  rw [outsAt0_C m c t (by omega) (by omega) (by omega) (by omega)]
  dsimp only
  rw [out_C, iblk1_eq, iblk3_eq, kept_eq m c (t.val - 1) hp]
  rfl

end Points

variable (m : (ℓ : Loc nD τ sig) → Buf (Elt Ideal) ℓ) (c : Dev nD)

/-- Row `i` of the first embeddings. -/
abbrev row1 (i : Fin 4096) : Fin 1024 → EReal := fun k => emb1 m c (ix2 i k)
/-- Row `j` of the second embeddings. -/
abbrev row2 (j : Fin 4096) : Fin 1024 → EReal := fun k => emb2 m c (ix2 j k)
/-- The score of the first arrays' row `i` with the second arrays' row `j`. -/
def pair (i j : Fin 4096) : EReal := score (row1 m c i) (row2 m c j) (lab1 m c (ix1 i)) (lab2 m c (ix1 j))

/-- A number is at most a block's least scores of a row when it is at most each of the block's scores of the row. -/
theorem le_block (t : Fin cfg0.N) (i : Fin 4096) (z : EReal) :
    z ≤ k0_pay15 (blk2 m c t) (col2 m c t) (k0_pay10 (emb1 m c)) (k0_pay11 (emb1 m c) (col1 m c)) (ix1 i) ↔
      ∀ r, z ≤ pair m c i (at_ t r) := by
  simp only [le_pay15, pay14_apply]
  rfl

/-- A number is at least a block's greatest scores of a row when it is at least each of the block's scores of the row. -/
theorem block_le (t : Fin cfg0.N) (i : Fin 4096) (z : EReal) :
    k0_pay16 (blk2 m c t) (col2 m c t) (k0_pay10 (emb1 m c)) (k0_pay11 (emb1 m c) (col1 m c)) (ix1 i) ≤ z ↔
      ∀ r, pair m c i (at_ t r) ≤ z := by
  simp only [pay16_le, pay14_apply]
  rfl

/-- Something holds of the rows of the blocks up to `t` when it holds of the rows of the blocks before `t` and of block
`t`'s. -/
theorem upto_block (t : Fin cfg0.N) (p : Fin 4096 → Prop) :
    (∀ j : Fin 4096, j.val < 512 * (t.val + 1) → p j) ↔
      (∀ j : Fin 4096, j.val < 512 * t.val → p j) ∧ ∀ r, p (at_ t r) := by
  constructor
  · refine fun h => ⟨fun j hj => h j (by omega), fun r => h _ ?_⟩
    show 512 * t.val + r.val < _
    omega
  · rintro ⟨h, h'⟩ j hj
    by_cases hlt : j.val < 512 * t.val
    · exact h j hlt
    · have := h' ⟨j.val - 512 * t.val, by omega⟩
      rwa [show at_ t ⟨j.val - 512 * t.val, by omega⟩ = j from Fin.ext (by show 512 * t.val + (j.val - 512 * t.val) = _; omega)]
        at this

/-- A row element of `rows`: the first row. -/
theorem rows_zero (p n : Vec Ideal S1x4096 .f32) (i : Fin 4096) : rows p n (ix2 0 i) = p (ix2 0 i) := rfl
/-- A row element of `rows`: the second row. -/
theorem rows_one (p n : Vec Ideal S1x4096 .f32) (i : Fin 4096) : rows p n (ix2 1 i) = n (ix2 0 i) := rfl

/-- Before the last point the rows hold the least and the greatest scores over the blocks so far. -/
theorem running (i : Fin 4096) : ∀ (n : Nat) (hn : n < cfg0.N), n < 7 →
    (∀ z, z ≤ (outsAt0 m c n hn).1 (ix2 0 i) ↔ ∀ j : Fin 4096, j.val < 512 * (n + 1) → z ≤ pair m c i j) ∧
    (∀ z, (outsAt0 m c n hn).1 (ix2 1 i) ≤ z ↔ ∀ j : Fin 4096, j.val < 512 * (n + 1) → pair m c i j ≤ z)
  | 0, hn, _ => by
    have e := first_point m c ⟨0, hn⟩ rfl
    have u := upto_block ⟨0, hn⟩
    dsimp only at e u
    rw [e]
    refine ⟨fun z => ?_, fun z => ?_⟩
    · rw [rows_zero, pay17_apply, le_block, u]
      simp
    · rw [rows_one, pay18_apply, block_le, u]
      simp
  | n + 1, hn, h7 => by
    have hp : n < cfg0.N := Nat.lt_of_succ_lt hn
    obtain ⟨ih, ih'⟩ := running i n hp (by omega)
    have e := middle_point m c ⟨n + 1, hn⟩ (Nat.le_add_left 1 n) h7 hp
    have u := upto_block ⟨n + 1, hn⟩
    dsimp only at e u
    rw [e]
    refine ⟨fun z => ?_, fun z => ?_⟩
    · rw [rows_zero, pay1_apply, le_min_iff, le_block, u]
      exact and_congr_left fun _ => ih z
    · rw [rows_one, pay2_apply, max_le_iff, block_le, u]
      exact and_congr_left fun _ => ih' z

/-- The result's first row: the last point's work on the least of all scores. -/
theorem result_zero (i : Fin 4096) (t : Fin cfg0.N) (h7 : t.val = 7) : ∃ p,
    (∀ z, z ≤ p ↔ ∀ j, z ≤ pair m c i j) ∧
    (outsAt0 m c t.val t.isLt).1 (ix2 0 i) = fixMin (size (row1 m c i)) (shift (row1 m c i)) p := by
  have hp : t.val - 1 < cfg0.N := by have := t.isLt; omega
  rw [last_point m c t h7 hp, rows_zero, pay6_apply, pay12_apply, pay13_apply]
  refine ⟨_, fun z => ?_, rfl⟩
  rw [pay1_apply, le_min_iff, le_block]
  have ih := (running m c i (t.val - 1) hp (by omega)).1 z
  rw [show 512 * (t.val - 1 + 1) = 512 * t.val by omega] at ih
  refine (and_congr_left fun _ => ih).trans ((upto_block t _).symm.trans ?_)
  exact ⟨fun h j => h j (by have := j.isLt; omega), fun h j _ => h j⟩

/-- The result's second row: the last point's work on the greatest of all scores. -/
theorem result_one (i : Fin 4096) (t : Fin cfg0.N) (h7 : t.val = 7) : ∃ p,
    (∀ z, p ≤ z ↔ ∀ j, pair m c i j ≤ z) ∧
    (outsAt0 m c t.val t.isLt).1 (ix2 1 i) = fixMax (size (row1 m c i)) (shift (row1 m c i)) p := by
  have hp : t.val - 1 < cfg0.N := by have := t.isLt; omega
  rw [last_point m c t h7 hp, rows_one, pay7_apply, pay12_apply, pay13_apply]
  refine ⟨_, fun z => ?_, rfl⟩
  rw [pay2_apply, max_le_iff, block_le]
  have ih := (running m c i (t.val - 1) hp (by omega)).2 z
  rw [show 512 * (t.val - 1 + 1) = 512 * t.val by omega] at ih
  refine (and_congr_left fun _ => ih).trans ((upto_block t _).symm.trans ?_)
  exact ⟨fun h j => h j (by have := j.isLt; omega), fun h j _ => h j⟩

end Cert.KernelIdeal.Mine

end
-- ==== Proof.Sorted.lean ====
/- The first element of a sorted row over the extended reals is the least of the row. -/
module

public import proofs.«01_k».proof.Proof.Fold
public import proofs.«01_k».proof.ReferenceIdeal
public import Idealize.ShloMosaic.Lib.SortFacts

@[expose] public section

set_option maxRecDepth 16384

noncomputable section

namespace Cert.ReferenceIdeal.Mine

open Idealize.ShloMosaic
open Cert.ReferenceIdeal

/-- The sort's comparator orders the extended reals. -/
theorem comparator_eq_one (a b : EReal) : comparator_f32_d1 (F := Ideal) a b = 1#1 ↔ a < b := by
  have h : ∀ a : EReal, Scalar.select (FloatOps.cmpf (F := Ideal) (φ := .f32) .une a a)
      (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a) = a := by
    intro a
    have hz : FloatOps.ofBits (F := Ideal) .f32 0x00000000#32 = (0 : EReal) := by
      simp [FloatOps.ofBits, Ideal.ofBits, Ideal.ieee]
    rw [hz]
    simp only [Ideal.cmpf_def, Ideal.cmp, Scalar.select]
    by_cases ha : a = 0 <;> simp [ha]
  unfold comparator_f32_d1
  dsimp only
  rw [h a, h b, Ideal.cmpfTotal_def]
  by_cases hab : a < b <;> simp [Ideal.cmp, CmpDirection.ordered, hab]

/-- The first element of a row that is sorted by the order of the extended reals is an element of the row, and at most
each. -/
theorem sort_first {n0 n1 : Nat} (cmp : EReal → EReal → BitVec 1) (hcmp : ∀ a b, cmp a b = 1#1 ↔ a < b)
    (x : (⟨2, ![n0, n1 + 1]⟩ : Shape).Idx → EReal) (i : Fin n0) :
    (∃ j, Host.sort ⟨2, ![n0, n1 + 1]⟩ 1 cmp x (ix2 i 0) = x (ix2 i j)) ∧
      ∀ j, Host.sort ⟨2, ![n0, n1 + 1]⟩ 1 cmp x (ix2 i 0) ≤ x (ix2 i j) := by
  have halong : ∀ k : Fin (n1 + 1), Shape.Idx.along (s := ⟨2, ![n0, n1 + 1]⟩) (ix2 i 0) 1 k = ix2 i k := by
    intro k
    funext a
    fin_cases a <;> rfl
  obtain ⟨B, hBdef⟩ : ∃ B : Fin (n1 + 1) → Fin (n1 + 1) → Bool,
    B = fun k k' => cmp (x (ix2 i k)) (x (ix2 i k')) == 1#1 := ⟨_, rfl⟩
  have hB : ∀ k k', B k k' = true ↔ x (ix2 i k) < x (ix2 i k') := fun k k' => by
    simp only [hBdef, beq_iff_eq]
    exact hcmp _ _
  have hB' : ∀ k k', B k k' = false ↔ x (ix2 i k') ≤ x (ix2 i k) := fun k k' => by
    rw [← not_lt, ← hB, Bool.not_eq_true]
  have e : Host.sort ⟨2, ![n0, n1 + 1]⟩ 1 cmp x (ix2 i 0) = x (ix2 i (sortedFrom B 0)) := by
    have hd : 1 < (⟨2, ![n0, n1 + 1]⟩ : Shape).rank := Nat.lt_succ_self 1
    have hR : (fun k k' : Fin (n1 + 1) => cmp (x (Shape.Idx.along (s := ⟨2, ![n0, n1 + 1]⟩) (ix2 i 0) 1 k))
        (x (Shape.Idx.along (s := ⟨2, ![n0, n1 + 1]⟩) (ix2 i 0) 1 k')) == 1#1) = B := by
      simp only [hBdef, halong]
    unfold Host.sort
    rw [dif_pos hd, ← hR]
    exact congrArg x (halong _)
  rw [e]
  refine ⟨⟨_, rfl⟩, fun j => ?_⟩
  obtain ⟨k, rfl⟩ := sortedFrom_surjective B j
  rcases eq_or_ne k 0 with rfl | hk
  · exact le_rfl
  · refine (hB' _ _).1 (sortedFrom_noInversion B B ?_ (fun _ _ h => h) ?_ 0 k (Fin.pos_of_ne_zero hk))
    · exact fun a b h => (hB' _ _).2 ((hB _ _).1 h).le
    · exact fun a b c h h' => (hB' _ _).2 (((hB' _ _).1 h').trans ((hB' _ _).1 h))

end Cert.ReferenceIdeal.Mine

end
-- ==== Proof.Reference.lean ====
/- What the reference computes, element by element, over the extended reals. -/
module

public import proofs.«01_k».proof.Proof.Sorted
public import proofs.«01_k».proof.Proof.Gen.ReferenceIdeal.Read

@[expose] public section

set_option maxRecDepth 16384

noncomputable section

namespace Cert.ReferenceIdeal.Mine

open Idealize.ShloMosaic Idealize.ShloMosaic.TcCoe Idealize.ShloMosaic.Tactic
open Cert.ReferenceIdeal Cert.ReferenceIdeal.Read
open Cert.KernelIdeal.Mine (size)

/-- The product of two normalised rows. -/
def cosine (a b : Fin 1024 → EReal) : EReal := ∑ k, Ideal.div (a k) (size a) * Ideal.div (b k) (size b)

/-- One when two labels are equal, otherwise zero. -/
def same (u v : BitVec 32) : EReal := FloatOps.uitofp (F := Ideal) .f32 (IntOp.cmpi .eq u v)

variable (x0 x1 : Vec Ideal S4096x1024 .f32) (x2 x3 : Vec Ideal S4096 .i32)

/-- The product of the normalised arrays. -/
theorem cosine_apply (i j : Fin 4096) :
    val_main_v11 (F := Ideal) x0 x1 (ix2 i j) = cosine (fun k => x0 (ix2 i k)) (fun k => x1 (ix2 j k)) := by
  pointwise [val_main_v11, val_main_v10, val_main_v9, val_main_v8, val_main_v7, val_main_v6, val_main_cst_0, val_main_v5,
    val_main_call1_v2, val_main_call1_v1, val_main_call1_cst, val_main_call1_v0, val_main_v4, val_main_v3, val_main_v2,
    val_main_v1, val_main_cst, val_main_v0, val_main_call0_v2, val_main_call0_v1, val_main_call0_cst, val_main_call0_v0]
  rfl

/-- The array that the first sort sorts. -/
theorem low_apply (i j : Fin 4096) :
    val_main_v23 (F := Ideal) x0 x1 x2 x3 (ix2 i j) = cosine (fun k => x0 (ix2 i k)) (fun k => x1 (ix2 j k)) +
      Ideal.ofBits .f32 0x4B18967F#32 * (1 - same (x2 (ix1 i)) (x3 (ix1 j))) := by
  unfold val_main_v23
  pointwise [val_main_v22, val_main_v21, val_main_v20, val_main_v19, val_main_v18, val_main_v17, val_main_v16,
    val_main_v15, val_main_v14, val_main_v13, val_main_v12, val_main_cst_1, val_main_cst_2, cosine_apply]
  rfl

/-- The array that the second sort sorts. -/
theorem high_apply (i j : Fin 4096) :
    val_main_v30 (F := Ideal) x0 x1 x2 x3 (ix2 i j) = -(cosine (fun k => x0 (ix2 i k)) (fun k => x1 (ix2 j k)) +
      Ideal.ofBits .f32 0xCB18967F#32 * same (x2 (ix1 i)) (x3 (ix1 j))) := by
  unfold val_main_v30 val_main_v29
  pointwise [val_main_v28, val_main_v27, val_main_v18, val_main_v17, val_main_v16,
    val_main_v15, val_main_v14, val_main_v13, val_main_v12, val_main_cst_3, cosine_apply]
  rfl

/-- The result's first row: the first sort's first column. -/
theorem result_zero (i : Fin 4096) :
    val_main_v37 (F := Ideal) x0 x1 x2 x3 (ix2 0 i) =
      val_main_v24 (F := Ideal) x0 x1 x2 x3 (ix2 i 0) := by
  pointwise [val_main_v37, val_main_v35, val_main_v26, val_main_v25]

/-- The result's second row: the second sort's first column, negated. -/
theorem result_one (i : Fin 4096) :
    val_main_v37 (F := Ideal) x0 x1 x2 x3 (ix2 1 i) =
      -val_main_v31 (F := Ideal) x0 x1 x2 x3 (ix2 i 0) := by
  pointwise [val_main_v37, val_main_v36, val_main_v34, val_main_v33, val_main_v32]

/-- The result's first row holds a value of the row's array that is at most each. -/
theorem result_zero_least (i : Fin 4096) :
    (∃ j, val_main_v37 (F := Ideal) x0 x1 x2 x3 (ix2 0 i) = val_main_v23 (F := Ideal) x0 x1 x2 x3 (ix2 i j)) ∧
      ∀ j, val_main_v37 (F := Ideal) x0 x1 x2 x3 (ix2 0 i) ≤ val_main_v23 (F := Ideal) x0 x1 x2 x3 (ix2 i j) := by
  rw [result_zero]
  exact sort_first (comparator_f32_d1 (F := Ideal)) comparator_eq_one (val_main_v23 (F := Ideal) x0 x1 x2 x3) i

/-- The result's second row holds a value of the row's array, negated, that is at least each. -/
theorem result_one_greatest (i : Fin 4096) :
    (∃ j, val_main_v37 (F := Ideal) x0 x1 x2 x3 (ix2 1 i) = -val_main_v30 (F := Ideal) x0 x1 x2 x3 (ix2 i j)) ∧
      ∀ j, -val_main_v30 (F := Ideal) x0 x1 x2 x3 (ix2 i j) ≤ val_main_v37 (F := Ideal) x0 x1 x2 x3 (ix2 1 i) := by
  rw [result_one]
  obtain ⟨⟨j, hj⟩, h⟩ := sort_first (comparator_f32_d1 (F := Ideal)) comparator_eq_one (val_main_v30 (F := Ideal) x0 x1 x2 x3) i
  exact ⟨⟨j, congrArg Neg.neg hj⟩, fun j => EReal.neg_le_neg_iff.2 (h j)⟩

end Cert.ReferenceIdeal.Mine

end
-- ==== Proof.Mining.lean ====
/- The mathematics of the kernel's shifted scores, over the real numbers: the least and the greatest shifted score tell
   the least and the greatest of the masked products. -/
module

public import proofs.«01_k».proof.Proof.Reference

@[expose] public section

noncomputable section

namespace Cert.Mining

variable {J : Type} {n : ℝ} {s : J → ℝ} {M : J → Prop} [DecidablePred M]

/-- A score: the product `s j`, moved down by 256·n where the labels match. -/
def shifted (n : ℝ) (s : J → ℝ) (M : J → Prop) [DecidablePred M] (j : J) : ℝ := s j + if M j then -(256 * n) else 0

/-- What the first mining takes the least of: the product over n, moved up by 9999999 where the labels do not match. -/
def low (n : ℝ) (s : J → ℝ) (M : J → Prop) [DecidablePred M] (j : J) : ℝ := s j / n + 9999999 * (1 - if M j then 1 else 0)

/-- What the second mining takes the greatest of: the product over n, moved down by 9999999 where the labels match. -/
def high (n : ℝ) (s : J → ℝ) (M : J → Prop) [DecidablePred M] (j : J) : ℝ := s j / n + -9999999 * if M j then 1 else 0

/-- The first result from the least score. -/
def ofLeast (n p : ℝ) : ℝ := if p < -(1 / 2) * (256 * n) then (p + 256 * n) * n⁻¹ else p * n⁻¹ + 9999999

/-- The second result from the greatest score. -/
def ofGreatest (n p : ℝ) : ℝ := if p < -(1 / 2) * (256 * n) then (p + 256 * n) * n⁻¹ - 9999999 else p * n⁻¹

/-- A score is under the threshold exactly where the labels match. -/
theorem shifted_lt_iff (hn : 0 < n) (hs : ∀ j, |s j| < n) (j : J) :
    shifted n s M j < -(1 / 2) * (256 * n) ↔ M j := by
  have := abs_lt.1 (hs j)
  unfold shifted
  by_cases h : M j
  · rw [if_pos h]
    exact ⟨fun _ => h, fun _ => by linarith⟩
  · rw [if_neg h]
    exact ⟨fun _ => by exfalso; linarith, fun h' => absurd h' h⟩

/-- A product over n is between −1 and 1. -/
theorem quotient_bounds (hn : 0 < n) (hs : ∀ j, |s j| < n) (j : J) : -1 < s j / n ∧ s j / n < 1 := by
  have := abs_lt.1 (hs j)
  constructor
  · rw [lt_div_iff₀ hn]; linarith
  · rw [div_lt_iff₀ hn]; linarith

/-- From the least score the first result is one of the values of `low`, and at most each. -/
theorem ofLeast_isLeast (hn : 0 < n) (hs : ∀ j, |s j| < n) {a : J} (ha : ∀ j, shifted n s M a ≤ shifted n s M j) :
    (∃ j, ofLeast n (shifted n s M a) = low n s M j) ∧ ∀ j, ofLeast n (shifted n s M a) ≤ low n s M j := by
  have hq := quotient_bounds hn hs
  by_cases hM : M a
  · have e : ofLeast n (shifted n s M a) = s a / n := by
      rw [ofLeast, if_pos ((shifted_lt_iff hn hs a).2 hM), shifted, if_pos hM]
      ring
    rw [e]
    refine ⟨⟨a, by simp [low, hM]⟩, fun j => ?_⟩
    by_cases hj : M j
    · have h := ha j
      simp only [shifted, if_pos hM, if_pos hj] at h
      simp only [low, if_pos hj, sub_self, mul_zero, add_zero]
      exact div_le_div_of_nonneg_right (by linarith) hn.le
    · simp only [low, if_neg hj]
      have := (hq a).2
      have := (hq j).1
      linarith
  · have hno : ∀ j, ¬M j := fun j hj => hM ((shifted_lt_iff hn hs a).1 ((ha j).trans_lt ((shifted_lt_iff hn hs j).2 hj)))
    have e : ofLeast n (shifted n s M a) = s a / n + 9999999 := by
      rw [ofLeast, if_neg (fun h => hM ((shifted_lt_iff hn hs a).1 h)), shifted, if_neg hM, add_zero, div_eq_mul_inv]
    rw [e]
    refine ⟨⟨a, by simp [low, hM]⟩, fun j => ?_⟩
    have h := ha j
    simp only [shifted, if_neg hM, if_neg (hno j), add_zero] at h
    simp only [low, if_neg (hno j), sub_zero, mul_one]
    exact add_le_add_left (div_le_div_of_nonneg_right h hn.le) _

/-- From the greatest score the second result is one of the values of `high`, and at least each. -/
theorem ofGreatest_isGreatest (hn : 0 < n) (hs : ∀ j, |s j| < n) {a : J}
    (ha : ∀ j, shifted n s M j ≤ shifted n s M a) :
    (∃ j, ofGreatest n (shifted n s M a) = high n s M j) ∧ ∀ j, high n s M j ≤ ofGreatest n (shifted n s M a) := by
  have hq := quotient_bounds hn hs
  by_cases hM : M a
  · have hall : ∀ j, M j := fun j => (shifted_lt_iff hn hs j).1 ((ha j).trans_lt ((shifted_lt_iff hn hs a).2 hM))
    have e : ofGreatest n (shifted n s M a) = s a / n - 9999999 := by
      rw [ofGreatest, if_pos ((shifted_lt_iff hn hs a).2 hM), shifted, if_pos hM]
      ring
    rw [e]
    refine ⟨⟨a, by simp only [high, if_pos hM]; ring⟩, fun j => ?_⟩
    have h := ha j
    simp only [shifted, if_pos hM, if_pos (hall j)] at h
    have := div_le_div_of_nonneg_right (show s j ≤ s a by linarith) hn.le
    simp only [high, if_pos (hall j)]
    linarith
  · have e : ofGreatest n (shifted n s M a) = s a / n := by
      rw [ofGreatest, if_neg (fun h => hM ((shifted_lt_iff hn hs a).1 h)), shifted, if_neg hM, add_zero, div_eq_mul_inv]
    rw [e]
    refine ⟨⟨a, by simp [high, hM]⟩, fun j => ?_⟩
    by_cases hj : M j
    · simp only [high, if_pos hj]
      have := (hq a).1
      have := (hq j).2
      linarith
    · have h := ha j
      simp only [shifted, if_neg hM, if_neg hj, add_zero] at h
      have := div_le_div_of_nonneg_right h hn.le
      simp only [high, if_neg hj]
      linarith

end Cert.Mining

end
-- ==== Proof.Rows.lean ====
/- The kernel's and the reference's numbers over the extended reals as real numbers, where the first row is finite and
   the first label is in range. -/
module

public import proofs.«01_k».proof.Proof.Mining

@[expose] public section

noncomputable section

namespace Cert.Mining

open Idealize.ShloMosaic
open Cert.KernelIdeal.Mine (size shift score fixMin fixMax)
open Cert.ReferenceIdeal.Mine (cosine same)

/-- The word of 256. -/
theorem word_256 : Ideal.ofBits .f32 1132462080#32 = ((256 : ℝ) : EReal) := by
  simp [Ideal.ofBits, Ideal.ieee, -EReal.coe_mul]; norm_num
/-- The word of −1/2. -/
theorem word_half : Ideal.ofBits .f32 3204448256#32 = ((-(1 / 2) : ℝ) : EReal) := by
  simp [Ideal.ofBits, Ideal.ieee, -EReal.coe_mul]; norm_num
/-- The word of 9999999. -/
theorem word_big : Ideal.ofBits .f32 1259902591#32 = ((9999999 : ℝ) : EReal) := by
  simp [Ideal.ofBits, Ideal.ieee, -EReal.coe_mul]
/-- The word of −9999999. -/
theorem word_neg_big : Ideal.ofBits .f32 0xCB18967F#32 = ((-9999999 : ℝ) : EReal) := by
  simp [Ideal.ofBits, Ideal.ieee, -EReal.coe_mul]
/-- The word of the number added to a norm is a positive number. -/
theorem word_eps : ∃ e : ℝ, 0 < e ∧ Ideal.ofBits .f32 730643660#32 = (e : EReal) := by
  refine ⟨9223372 * (2 ^ 63)⁻¹, by norm_num, ?_⟩
  simp [Ideal.ofBits, Ideal.ieee, -EReal.coe_mul]

/-- A sum of real numbers is the same sum over the extended reals. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A square of an extended real is not negative. -/
theorem sq_nonneg' (x : EReal) : 0 ≤ x * x := by
  induction x with
  | bot => simp
  | top => simp
  | coe r => exact_mod_cast mul_self_nonneg r

/-- The norm of a row with an infinite element is plus infinity. -/
theorem size_top (x : Fin 1024 → EReal) (k : Fin 1024) (hk : x k = ⊤ ∨ x k = ⊥) : size x = ⊤ := by
  have h : ∑ k, x k * x k = ⊤ := by
    refine top_le_iff.1 ?_
    have := Finset.single_le_sum (f := fun k => x k * x k) (fun k _ => sq_nonneg' (x k)) (Finset.mem_univ k)
    refine le_trans (le_of_eq ?_) this
    rcases hk with hk | hk <;> simp [hk]
  obtain ⟨e, -, he⟩ := word_eps
  rw [size, h, Ideal.sqrt_top, he, EReal.top_add_coe]

/-- The norm of a finite row is a real number above the root of the sum of the squares. -/
theorem size_real (a : Fin 1024 → ℝ) :
    ∃ n : ℝ, 0 < n ∧ Real.sqrt (∑ k, a k * a k) < n ∧ size (fun k => (a k : EReal)) = (n : EReal) := by
  obtain ⟨e, he0, he⟩ := word_eps
  have h0 : ¬∑ k, a k * a k < 0 := not_lt.2 (Finset.sum_nonneg fun k _ => mul_self_nonneg _)
  refine ⟨Real.sqrt (∑ k, a k * a k) + e, add_pos_of_nonneg_of_pos (Real.sqrt_nonneg _) he0, lt_add_of_pos_right _ he0, ?_⟩
  simp only [size, ← EReal.coe_mul, ← coe_sum, Ideal.sqrt_coe, if_neg h0, he, EReal.coe_add]

/-- A normalised row, as the kernel computes it and as the reference does, is one row of real numbers, and its squares
add up to at most 1: where an element is infinite the row is zero. -/
theorem normalised (x : Fin 1024 → EReal) : ∃ b : Fin 1024 → ℝ,
    (∀ k, x k * Ideal.div 1 (size x) = (b k : EReal)) ∧ (∀ k, Ideal.div (x k) (size x) = (b k : EReal)) ∧
      ∑ k, b k * b k ≤ 1 := by
  by_cases h : ∃ k, x k = ⊤ ∨ x k = ⊥
  · obtain ⟨k, hk⟩ := h
    refine ⟨fun _ => 0, fun k => ?_, fun k => ?_, by simp⟩ <;> simp [size_top x _ hk, Ideal.div]
  · have hx : ∀ k, ∃ r : ℝ, x k = (r : EReal) := fun k =>
      ⟨(x k).toReal, (EReal.coe_toReal (fun h' => h ⟨k, Or.inl h'⟩) (fun h' => h ⟨k, Or.inr h'⟩)).symm⟩
    choose c hc using hx
    obtain rfl : x = fun k => (c k : EReal) := funext hc
    obtain ⟨n, hn, hlt, e⟩ := size_real c
    refine ⟨fun k => c k * (1 / n), fun k => ?_, fun k => ?_, ?_⟩
    · rw [e, Ideal.div_coe hn.ne', one_mul, ← EReal.coe_mul]
    · rw [e, Ideal.div_coe hn.ne', ← EReal.coe_mul]
    · have hS : ∑ k, c k * c k ≤ n * n := by
        rw [← Real.mul_self_sqrt (Finset.sum_nonneg fun k _ => mul_self_nonneg (c k))]
        exact mul_self_le_mul_self (Real.sqrt_nonneg _) hlt.le
      have : ∑ k, c k * (1 / n) * (c k * (1 / n)) = (∑ k, c k * c k) / (n * n) := by
        rw [Finset.sum_div]
        exact Finset.sum_congr rfl fun k _ => by field_simp
      rw [this]
      exact (div_le_one (mul_pos hn hn)).2 hS

/-- The product of a row with a normalised row is below the first row's norm. -/
theorem product_lt (a b : Fin 1024 → ℝ) (n : ℝ) (hb : ∑ k, b k * b k ≤ 1) (hn : Real.sqrt (∑ k, a k * a k) < n) :
    |∑ k, b k * a k| < n := by
  refine lt_of_le_of_lt ?_ hn
  rw [← Real.sqrt_sq_eq_abs]
  refine Real.sqrt_le_sqrt ?_
  have h := Finset.sum_mul_sq_le_sq_mul_sq Finset.univ b a
  simp only [sq] at h ⊢
  refine h.trans ?_
  exact mul_le_of_le_one_left (Finset.sum_nonneg fun k _ => mul_self_nonneg _) hb

/-- The reference's indicator of equal labels. -/
theorem same_eq (u v : BitVec 32) : same u v = ((if u = v then 1 else 0 : ℝ) : EReal) := by
  show (((IntOp.cmpi .eq u v).toNat : ℝ) : EReal) = _
  by_cases h : u = v
  · simp [IntOp.cmpi, h]
  · have : (u == v) = false := by simp [h]
    simp [IntOp.cmpi, h, this]

/-- The product of the labels' rows: the one nonzero term is at the first label. -/
theorem label_sum (u v : BitVec 32) (hu : u.toNat < 512) (w : EReal) :
    (∑ q : Fin 512, Scalar.select (IntOp.cmpi .eq (BitVec.ofNat 32 q.val) u)
      (FloatOps.sitofp (F := Ideal) .f32 (BitVec.setWidth 32 (IntOp.cmpi .eq (BitVec.ofNat 32 q.val) v)) * w) 0) =
      if u = v then w else 0 := by
  rw [Finset.sum_eq_single (⟨u.toNat, hu⟩ : Fin 512)]
  · rw [show ∀ b : BitVec 32, FloatOps.sitofp (F := Ideal) .f32 b = ((b.toInt : ℝ) : EReal) from fun _ => rfl]
    by_cases h : u = v
    · simp [IntOp.cmpi, Scalar.select, h]
    · have : (u == v) = false := by simp [h]
      simp [IntOp.cmpi, Scalar.select, h, this]
  · intro q _ hq
    have : BitVec.ofNat 32 q.val ≠ u := by
      intro h
      apply hq
      apply Fin.ext
      have := congrArg BitVec.toNat h
      rw [BitVec.toNat_ofNat, Nat.mod_eq_of_lt (by omega)] at this
      exact this
    have : (BitVec.ofNat 32 q.val == u) = false := by simp [this]
    simp [IntOp.cmpi, Scalar.select, this]
  · exact fun h => absurd (Finset.mem_univ _) h

/-- One pair of rows: there is a real product below the first row's norm in size, of which the kernel's score and the
reference's normalised product are made. -/
theorem pair_real (a : Fin 1024 → ℝ) (n : ℝ) (hn0 : 0 < n) (hn : Real.sqrt (∑ k, a k * a k) < n)
    (e : size (fun k => (a k : EReal)) = (n : EReal)) (x : Fin 1024 → EReal) (u v : BitVec 32) (hu : u.toNat < 512) :
    ∃ s : ℝ, |s| < n ∧ score (fun k => (a k : EReal)) x u v = ((s + if u = v then -(256 * n) else 0 : ℝ) : EReal) ∧
      cosine (fun k => (a k : EReal)) x = ((s / n : ℝ) : EReal) := by
  obtain ⟨b, hb, hb', hb1⟩ := normalised x
  refine ⟨∑ k, b k * a k, product_lt a b n hb1 hn, ?_, ?_⟩
  · unfold score
    rw [label_sum u v hu, shift, e, word_256]
    simp only [hb, ← EReal.coe_mul, ← coe_sum]
    rw [zero_sub, EReal.coe_add, ← EReal.coe_neg]
    by_cases h : u = v <;> simp [h]
  · unfold cosine
    simp only [hb', e, Ideal.div_coe hn0.ne', ← EReal.coe_mul, ← coe_sum]
    rw [EReal.coe_eq_coe_iff, Finset.sum_div]
    exact Finset.sum_congr rfl fun k _ => by field_simp

/-- The first result from a real least score. -/
theorem fixMin_real (n p : ℝ) (hn : 0 < n) :
    fixMin (n : EReal) ((256 * n : ℝ) : EReal) (p : EReal) = (ofLeast n p : EReal) := by
  unfold fixMin ofLeast
  rw [word_half, word_big, Ideal.div_coe hn.ne', one_mul, one_div n]
  simp only [← EReal.coe_mul, ← EReal.coe_add, EReal.coe_lt_coe_iff]
  split <;> rfl

/-- The second result from a real greatest score. -/
theorem fixMax_real (n p : ℝ) (hn : 0 < n) :
    fixMax (n : EReal) ((256 * n : ℝ) : EReal) (p : EReal) = (ofGreatest n p : EReal) := by
  unfold fixMax ofGreatest
  rw [word_half, word_big, Ideal.div_coe hn.ne', one_mul, one_div n]
  simp only [← EReal.coe_mul, ← EReal.coe_add, ← EReal.coe_sub, EReal.coe_lt_coe_iff]
  split <;> rfl

end Cert.Mining

end
-- ==== Proof.Tame.lean ====
/- What the precondition says of the arguments: the first embeddings are real numbers, and the first labels are below
   512. -/
module

public import proofs.«01_k».proof.Proof.Rows
public import proofs.«01_k».proof.Proof.Gen.Pre_tame

@[expose] public section

set_option maxRecDepth 16384

noncomputable section

namespace Cert.Pre_tame.Mine

open Idealize.ShloMosaic Idealize.ShloMosaic.Tactic
open Cert.Pre_tame

variable (x0 x1 : FVec Ideal S4096x1024 .f32) (x2 x3 : IVec S4096 32)

/-- Under the precondition an element of the first embeddings is a real number. -/
theorem real_of_pre (h : (fn (F := Ideal) x0 x1 x2 x3).1 = fun _ => 1#1) (i : Fin 4096) (k : Fin 1024) :
    ∃ r : ℝ, x0 (ix2 i k) = (r : EReal) := by
  have hk := congrFun h (ix2 i k)
  unfold fn at hk
  dsimp only at hk
  pointwise at hk
  rw [Cert.KernelIdeal.Mine.top_word] at hk
  generalize x0 (ix2 i k) = x at hk ⊢
  have hlt : max x (-x) < ⊤ := by
    by_contra hn
    exact absurd (hk.symm.trans (congrArg BitVec.ofBool (decide_eq_false hn))) (by decide)
  refine ⟨x.toReal, (EReal.coe_toReal (fun e => ?_) (fun e => ?_)).symm⟩
  · simp [e] at hlt
  · simp [e] at hlt

/-- A word that is between 0 and 511 as a signed number is below 512. -/
theorem lt_of_range (w : BitVec 32) (h : IntOp.andi (IntOp.cmpi .sge w 0#32) (IntOp.cmpi .slt w 512#32) = 1#1) :
    w.toNat < 512 := by
  have h0 : (0#32).sle w = true ∧ w.slt 512#32 = true := by
    revert h
    simp only [IntOp.andi, IntOp.cmpi]
    cases (0#32).sle w <;> cases w.slt 512#32 <;> simp
  have h1 := h0.1
  have h2 := h0.2
  rw [BitVec.sle_eq_decide, decide_eq_true_iff, BitVec.toInt_eq_toNat_cond, BitVec.toInt_eq_toNat_cond] at h1
  rw [BitVec.slt_eq_decide, decide_eq_true_iff, BitVec.toInt_eq_toNat_cond, BitVec.toInt_eq_toNat_cond] at h2
  have := w.isLt
  simp at h1 h2
  split at h1 <;> split at h2 <;> omega

/-- Under the precondition a first label is below 512. -/
theorem label_of_pre (h : (fn (F := Ideal) x0 x1 x2 x3).2 = fun _ => 1#1) (i : Fin 4096) : (x2 (ix1 i)).toNat < 512 := by
  have hk := congrFun h (ix1 i)
  unfold fn at hk
  dsimp only at hk
  pointwise at hk
  exact lt_of_range _ hk

end Cert.Pre_tame.Mine

end
-- ==== Proof.Equation.lean ====
/- The kernel's array is the reference's array, under the precondition. -/
module

public import proofs.«01_k».proof.Proof.Tame

@[expose] public section

set_option maxRecDepth 16384

noncomputable section

namespace Cert.Mining

open Idealize.ShloMosaic Idealize.ShloMosaic.TcCoe
open Cert.KernelIdeal.Mine
open Cert.ReferenceIdeal.Mine (cosine same)
open Cert.ReferenceIdeal.Read

variable {x : Fin 1024 → EReal} (X : Fin 4096 → Fin 1024 → EReal) {u : BitVec 32} (V : Fin 4096 → BitVec 32)

/-- One finite row with a label in range against all second rows: the real numbers that all the scores and the products
are made of. -/
theorem row_real (hx : ∀ k, ∃ r : ℝ, x k = (r : EReal)) (hu : u.toNat < 512) : ∃ (n : ℝ) (s : Fin 4096 → ℝ),
    0 < n ∧ (∀ j, |s j| < n) ∧ size x = (n : EReal) ∧ shift x = ((256 * n : ℝ) : EReal) ∧
      (∀ j, score x (X j) u (V j) = (shifted n s (fun j => u = V j) j : EReal)) ∧
      ∀ j, cosine x (X j) = ((s j / n : ℝ) : EReal) := by
  choose a ha using hx
  obtain rfl : x = fun k => (a k : EReal) := funext ha
  obtain ⟨n, hn0, hn, e⟩ := size_real a
  choose s hs hs' hs'' using fun j => pair_real a n hn0 hn e (X j) u (V j) hu
  exact ⟨n, s, hn0, hs, e, by rw [shift, e, word_256, EReal.coe_mul], hs', hs''⟩

/-- The least score, by its lower bounds, turned into the first result, is the least of the masked products. -/
theorem least_eq (hx : ∀ k, ∃ r : ℝ, x k = (r : EReal)) (hu : u.toNat < 512) {p w : EReal}
    (hp : ∀ z, z ≤ p ↔ ∀ j, z ≤ score x (X j) u (V j))
    (hw : (∃ j, w = cosine x (X j) + Ideal.ofBits .f32 0x4B18967F#32 * (1 - same u (V j))) ∧
      ∀ j, w ≤ cosine x (X j) + Ideal.ofBits .f32 0x4B18967F#32 * (1 - same u (V j))) :
    fixMin (size x) (shift x) p = w := by
  obtain ⟨n, s, hn, hs, e, e', hscore, hcos⟩ := row_real X V hx hu
  have hlow : ∀ j, cosine x (X j) + Ideal.ofBits .f32 0x4B18967F#32 * (1 - same u (V j)) =
      (low n s (fun j => u = V j) j : EReal) := fun j => by
    rw [hcos, word_big, same_eq, low, EReal.coe_add, EReal.coe_mul, EReal.coe_sub, EReal.coe_one]
  simp only [hlow] at hw
  simp only [hscore] at hp
  obtain ⟨a, ha⟩ := Finite.exists_min (shifted n s (fun j => u = V j))
  obtain rfl : p = (shifted n s (fun j => u = V j) a : EReal) :=
    le_antisymm ((hp p).1 le_rfl a) ((hp _).2 fun j => EReal.coe_le_coe_iff.2 (ha j))
  rw [e, e', fixMin_real n _ hn]
  obtain ⟨⟨j, hj⟩, h⟩ := ofLeast_isLeast hn hs ha
  obtain ⟨⟨k, hk⟩, h'⟩ := hw
  refine le_antisymm ?_ ?_
  · rw [hk]
    exact EReal.coe_le_coe_iff.2 (h k)
  · rw [hj]
    exact h' j

/-- The greatest score, by its upper bounds, turned into the second result, is the greatest of the masked products. -/
theorem greatest_eq (hx : ∀ k, ∃ r : ℝ, x k = (r : EReal)) (hu : u.toNat < 512) {p w : EReal}
    (hp : ∀ z, p ≤ z ↔ ∀ j, score x (X j) u (V j) ≤ z)
    (hw : (∃ j, w = cosine x (X j) + Ideal.ofBits .f32 0xCB18967F#32 * same u (V j)) ∧
      ∀ j, cosine x (X j) + Ideal.ofBits .f32 0xCB18967F#32 * same u (V j) ≤ w) :
    fixMax (size x) (shift x) p = w := by
  obtain ⟨n, s, hn, hs, e, e', hscore, hcos⟩ := row_real X V hx hu
  have hhigh : ∀ j, cosine x (X j) + Ideal.ofBits .f32 0xCB18967F#32 * same u (V j) =
      (high n s (fun j => u = V j) j : EReal) := fun j => by
    rw [hcos, word_neg_big, same_eq, high, EReal.coe_add, EReal.coe_mul]
  simp only [hhigh] at hw
  simp only [hscore] at hp
  obtain ⟨a, ha⟩ := Finite.exists_max (shifted n s (fun j => u = V j))
  obtain rfl : p = (shifted n s (fun j => u = V j) a : EReal) :=
    le_antisymm ((hp _).2 fun j => EReal.coe_le_coe_iff.2 (ha j)) ((hp p).1 le_rfl a)
  rw [e, e', fixMax_real n _ hn]
  obtain ⟨⟨j, hj⟩, h⟩ := ofGreatest_isGreatest hn hs ha
  obtain ⟨⟨k, hk⟩, h'⟩ := hw
  refine le_antisymm ?_ ?_
  · rw [hj]
    exact h' j
  · rw [hk]
    exact EReal.coe_le_coe_iff.2 (h k)

variable (m : (ℓ : Loc KernelIdeal.nD KernelIdeal.τ KernelIdeal.sig) → Buf (Elt Ideal) ℓ) (c : Dev KernelIdeal.nD)

/-- The array after the last point is the last point's rows. -/
theorem array_eq (t : Fin KernelIdeal.cfg0.N) (h7 : t.val = 7) :
    KernelIdeal.Value.G4 m c = (KernelIdeal.Gen.outsAt0 m c t.val t.isLt).1 := by
  obtain ⟨n, hn⟩ := t
  obtain rfl : n = 7 := h7
  rw [KernelIdeal.Value.G4_last, KernelIdeal.Value.outsAt0_sweep]

/-- The kernel's array is the reference's, where the first embeddings are real numbers and the first labels are below
512. -/
theorem equation (hx : ∀ i k, ∃ r : ℝ, emb1 m c (ix2 i k) = (r : EReal)) (hu : ∀ i, (lab1 m c (ix1 i)).toNat < 512) :
    KernelIdeal.Value.G4 m c = val_main_v37 (F := Ideal) (emb1 m c) (emb2 m c) (lab1 m c) (lab2 m c) := by
  have h7 : 7 < KernelIdeal.cfg0.N := lt_of_lt_of_eq (by decide) KernelIdeal.Gen.N_0.symm
  rw [array_eq m c ⟨7, h7⟩ rfl]
  funext y
  obtain ⟨b, i, rfl⟩ : ∃ (b : Fin 2) (i : Fin 4096), y = ix2 b i := ⟨y 0, y 1, eq_ix2 y⟩
  rcases (by decide : ∀ b : Fin 2, b = 0 ∨ b = 1) b with rfl | rfl
  · obtain ⟨p, hp, e⟩ := result_zero m c i ⟨7, h7⟩ rfl
    rw [e]
    refine least_eq (row2 m c) (fun j => lab2 m c (ix1 j)) (hx i) (hu i) hp ?_
    have h := ReferenceIdeal.Mine.result_zero_least (emb1 m c) (emb2 m c) (lab1 m c) (lab2 m c) i
    simp only [ReferenceIdeal.Mine.low_apply] at h
    exact h
  · obtain ⟨p, hp, e⟩ := result_one m c i ⟨7, h7⟩ rfl
    rw [e]
    refine greatest_eq (row2 m c) (fun j => lab2 m c (ix1 j)) (hx i) (hu i) hp ?_
    have h := ReferenceIdeal.Mine.result_one_greatest (emb1 m c) (emb2 m c) (lab1 m c) (lab2 m c) i
    simp only [ReferenceIdeal.Mine.high_apply, neg_neg] at h
    exact h

end Cert.Mining

end
-- ==== Proof.lean ====
/- The claims assembled: the frames, the unchanged idealization, and the equality of the kernel's and the reference's
   results. -/
module

public import proofs.«01_k».proof.Defs
public import proofs.«01_k».proof.Proof.Gen.Kernel.Frame
public import proofs.«01_k».proof.Proof.Gen.KernelIdeal.Value
public import proofs.«01_k».proof.Proof.Gen.Pre_tame
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates without a fault, leaves its arguments, and ends with every counter at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference for the launches that the precondition admits. -/
theorem quiescent_ReferenceIdeal_pre_tame : Cert.quiescent_ReferenceIdeal_pre_tame := fun m ρ _ =>
  quiescent_ReferenceIdeal m ρ trivial

/-- The kernel's result is the reference's result, over the extended reals, for the launches that the precondition
admits. -/
theorem algebraic_KernelIdeal_ReferenceIdeal_pre_tame : Cert.algebraic_KernelIdeal_ReferenceIdeal_pre_tame := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v37_eq, (hagree c).1, (hagree c).2.1, (hagree c).2.2.1, (hagree c).2.2.2]
  exact (Cert.Mining.equation m c (fun i k => Cert.Pre_tame.Mine.real_of_pre _ _ _ _ (hpre c).1 i k)
    (fun i => Cert.Pre_tame.Mine.label_of_pre _ _ _ _ (hpre c).2 i)).symm

/-- All the claims. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_tame, (trivial : preserves_Kernel_KernelIdeal),
  algebraic_KernelIdeal_ReferenceIdeal_pre_tame⟩

end Cert.Proof

end
